-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x32x32 : Shape := ⟨4, ![16, 64, 32, 32]⟩
abbrev S1024x64 : Shape := ⟨2, ![1024, 64]⟩
abbrev S_ : Shape := ⟨0, ![]⟩

class Facts : Prop where
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x64x32x32 .f32) (main_arg1 : FVec F S1024x64 .f32) : IVec S_ 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_c : IVec S_ 1 := constantI S_ 1 1#1
  let main_v3 : IVec S_ 1 := (fun x v => Host.reduce IntOp.andi x v reducesTo_S16x64x32x32_S_d0_1_2_3 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16x64x32x32 : Shape := ⟨4, ![16, 64, 32, 32]⟩
abbrev S1024x64 : Shape := ⟨2, ![1024, 64]⟩
abbrev S16x64x1024 : Shape := ⟨3, ![16, 64, 1024]⟩
abbrev S16x1x1024 : Shape := ⟨3, ![16, 1, 1024]⟩
abbrev S2x8x128 : Shape := ⟨3, ![2, 8, 128]⟩
abbrev S8x64x1024 : Shape := ⟨3, ![8, 64, 1024]⟩
abbrev S8x1x1024 : Shape := ⟨3, ![8, 1, 1024]⟩
abbrev S1x8x128 : Shape := ⟨3, ![1, 8, 128]⟩
abbrev S1024 : Shape := ⟨1, ![1024]⟩
abbrev S1024x1 : Shape := ⟨2, ![1024, 1]⟩
abbrev S1x64x1024 : Shape := ⟨3, ![1, 64, 1024]⟩
abbrev S64x1024 : Shape := ⟨2, ![64, 1024]⟩
abbrev S1x1024 : Shape := ⟨2, ![1, 1024]⟩
abbrev S1024x1024 : Shape := ⟨2, ![1024, 1024]⟩
abbrev S1x1x1024 : Shape := ⟨3, ![1, 1, 1024]⟩
abbrev S1 : Shape := ⟨1, ![1]⟩
abbrev S1x1x1 : Shape := ⟨3, ![1, 1, 1]⟩
abbrev S8x128 : Shape := ⟨2, ![8, 128]⟩
abbrev S16x32x32 : Shape := ⟨3, ![16, 32, 32]⟩
abbrev S2x1x1 : Shape := ⟨3, ![2, 1, 1]⟩
abbrev S2 : Shape := ⟨1, ![2]⟩
abbrev S_ : Shape := ⟨0, ![]⟩

abbrev nBuf : Space → Nat
  | .hbm => 16
  | .vmem => 9
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S16x64x1024, .f32⟩
  | .hbm, ⟨4, _⟩ => ⟨S16x1x1024, .i32⟩
  | .hbm, ⟨5, _⟩ => ⟨S2x8x128, .f32⟩
  | .hbm, ⟨6, _⟩ => ⟨S16x64x32x32, .f32⟩
  | .hbm, ⟨7, _⟩ => ⟨S16x32x32, .i32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S8x64x1024, .f32⟩
  | .local _ .vmem, ⟨1, _⟩ => ⟨S8x64x1024, .f32⟩
  | .local _ .vmem, ⟨2, _⟩ => ⟨S1024x64, .f32⟩
  | .local _ .vmem, ⟨3, _⟩ => ⟨S8x64x1024, .f32⟩
  | .local _ .vmem, ⟨4, _⟩ => ⟨S8x64x1024, .f32⟩
  | .local _ .vmem, ⟨5, _⟩ => ⟨S8x1x1024, .i32⟩
  | .local _ .vmem, ⟨6, _⟩ => ⟨S8x1x1024, .i32⟩
  | .local _ .vmem, ⟨7, _⟩ => ⟨S1x8x128, .f32⟩
  | .local _ .vmem, ⟨8, _⟩ => ⟨S1x8x128, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S16x32x32 : Shape := ⟨3, ![16, 32, 32]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S64x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16x32x32, .i32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x64, .f32⟩
  | .hbm, ⟨46, _⟩ => ⟨S16384x64, .i1⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S16x32x32x64, .f32⟩
  | .hbm, ⟨51, _⟩ => ⟨S16x64x32x32, .f32⟩
  | .hbm, ⟨52, _⟩ => ⟨S16x64x32x32, .f32⟩
  | .hbm, ⟨53, _⟩ => ⟨S16x64x32x32, .f32⟩
  | .hbm, ⟨54, _⟩ => ⟨S16x64x32x32, .f32⟩
  | .hbm, ⟨55, _⟩ => ⟨S16x64x32x32, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S16x64x32x32, .f32⟩
  | .hbm, ⟨61, _⟩ => ⟨S16x64x32x32, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_2 : Ref sig .tc := ⟨.hbm, 56, rfl⟩
abbrev main_v25 : Ref sig .tc := ⟨.hbm, 57, rfl⟩
abbrev main_cst_3 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩
abbrev main_cst_6 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.Block.lean ====
/-
  What one run of the kernel's body leaves in its three output blocks, as one function of the image for each of
  the eight images of the block.
-/
module

public import proofs.«01_k».proof.Proof.Gen.KernelIdeal.Frame
public import Idealize.ShloMosaic.Lib.Pipeline.Value
public import Idealize.ShloMosaic.Lib.Pipeline.ValueKit
public import Idealize.ShloMosaic.Lib.ValueLayout
public import Idealize.ShloMosaic.Lib.Tactic

@[expose] public section

set_option maxRecDepth 16384

noncomputable section

namespace Cert.Vq.Block

open Cert.KernelIdeal Cert.KernelIdeal.Gen
open Idealize.ShloMosaic Idealize.ShloMosaic.TcCoe Idealize.SL.Sem

variable {F : FTy → Type} [FloatOps F]

/-- Image `g` of a block of eight. -/
def image (x : Vec F S8x64x1024 .f32) (g : Fin 8) : FVec F S64x1024 .f32 := fun j => x (ix3 g (j 0) (j 1))

/-- The score of every codebook entry (rows) at every position (columns): the squared lengths, then the product
    with the codebook scaled by minus two. -/
def score (w : FVec F S1024x64 .f32) (x : FVec F S64x1024 .f32) : FVec F S1024x1024 .f32 :=
  addf
    (addf
      (broadcastTo S1024x1024
        (shapeCast S1x1024 (multiReduction .add [0] S1024 (mulf x x) 0x00000000#32 reduces_S64x1024_S1024 (.inl rfl) rfl) shapeCasts_S1024_S1x1024)
        broadcasts_S1x1024_S1024x1024)
      (broadcastTo S1024x1024
        (shapeCast S1024x1 (multiReduction .add [1] S1024 (mulf w w) 0x00000000#32 reduces_S1024x64_S1024 (.inl rfl) rfl) shapeCasts_S1024_S1024x1)
        broadcasts_S1024x1_S1024x1024))
    (matmul dot_S1024x64_S64x1024_S1024x1024_1_0_0_1_n_n none
      (mulf (broadcast S1024x64 (Scalar.ofBits .f32 0xC0000000#32)) w) x (constant S1024x1024 .f32 0x00000000#32))

/-- The least row index at which a column of scores attains its minimum. -/
def first (s : FVec F S1024x1024 .f32) : IVec S1024 32 :=
  multiReductionI .minsi [0] S1024
    (select
      (cmpf .oeq s
        (broadcastTo S1024x1024
          (shapeCast S1x1024 (multiReduction .minimumf [0] S1024 s 0x7F800000#32 reduces_S1024x1024_S1024 (.inl rfl) rfl) shapeCasts_S1024_S1x1024)
          broadcasts_S1x1024_S1024x1024))
      (iota .tc S1024x1024 32 [0] iota_S1024x1024_d0_w32) (broadcast S1024x1024 1073741824#32))
    2147483647#32 reduces_S1024x1024_S1024 rfl

/-- The codebook rows numbered by `i`, through the product with the one-hot columns. -/
def pick (w : FVec F S1024x64 .f32) (i : IVec S1024 32) : FVec F S64x1024 .f32 :=
  matmul dot_S1024x64_S1024x1024_S64x1024_0_0_1_1_n_n none w
    (sitofp .f32 (extui 32
      (cmpi .eq (iota .tc S1024x1024 32 [0] iota_S1024x1024_d0_w32)
        (broadcastTo S1024x1024 (shapeCast S1x1024 i shapeCasts_S1024_S1x1024) broadcasts_S1x1024_S1024x1024)) natLt_1_32))
    (constant S64x1024 .f32 0x00000000#32)

/-- The number of the nearest entry at each position of an image. -/
def nearest (w : FVec F S1024x64 .f32) (x : FVec F S64x1024 .f32) : IVec S1024 32 := first (score w x)

/-- The nearest entry at each position of an image. -/
def picked (w : FVec F S1024x64 .f32) (x : FVec F S64x1024 .f32) : FVec F S64x1024 .f32 := pick w (nearest w x)

/-- The sum of the squares of `d`. -/
def sumSq (d : FVec F S64x1024 .f32) : F .f32 :=
  extractAt ![0, 0, 0]
    (shapeCast S1x1x1
      (multiReduction .add [1, 2] S1 (shapeCast S1x64x1024 (mulf d d) shapeCasts_S64x1024_S1x64x1024) 0x00000000#32 reduces_S1x64x1024_S1 (.inl rfl) rfl)
      shapeCasts_S1_S1x1x1)
    inpos_S1x1x1_p0_0_0

/-- The squared error of an image. -/
def err (w : FVec F S1024x64 .f32) (x : FVec F S64x1024 .f32) : F .f32 := sumSq (subf (picked w x) x)

/-- The squared errors of a block's eight images, added in order from zero. -/
def errs (w : FVec F S1024x64 .f32) (x : Vec F S8x64x1024 .f32) : F .f32 :=
  [(0 : Fin 8), 1, 2, 3, 4, 5, 6, 7].foldl (fun a g => Scalar.addf a (err w (image x g))) (Scalar.ofBits .f32 0x00000000#32)

/-- The codebook block, read whole. -/
theorem whole (x1 : Vec F S1024x64 .f32) : View.ld x1 r0_0 = x1 := View.ld_unit_lit _ _ (by decide)

/-- The load of one image out of the block, without its unit axis. -/
theorem slab (x : Vec F S8x64x1024 .f32) (g : Fin 8) (off : Fin 3 → ℕ) (h : off = ![g.val, 0, 0])
    (inb : ∀ a, off a + S1x64x1024.size a ≤ S8x64x1024.size a) :
    shapeCast S64x1024 (View.ld x (Rect.unit (s := S8x64x1024) off S1x64x1024.size inb)) shapeCasts_S1x64x1024_S64x1024 = image x g := by
  subst h
  funext j
  idx_vars j
  refine (ValueIdx.shapeCast_1ab_ab_apply _ _ _ _).trans ?_
  refine (View.ld_unit_apply_of _ _ _ _ _ (ix3 g _ _) ?_).trans rfl
  intro a
  fin_cases a <;> simp

/-- One stored image of quantised values, read at a place of the block. -/
theorem piece2 (x0 : Vec F S8x64x1024 .f32) (x1 : Vec F S1024x64 .f32) (g : Fin 8) (off : Fin 3 → ℕ)
    (inb : ∀ a, off a + S1x64x1024.size a ≤ S8x64x1024.size a) (p : FVec F S1x64x1024 .f32)
    (hp : p = shapeCast S1x64x1024 (picked (View.ld x1 r0_0)
      (shapeCast S64x1024 (View.ld x0 (Rect.unit (s := S8x64x1024) off S1x64x1024.size inb)) shapeCasts_S1x64x1024_S64x1024))
      shapeCasts_S64x1024_S1x64x1024)
    (x : S1x64x1024.Idx) (y : S8x64x1024.Idx) (h : off = ![g.val, 0, 0])
    (e0 : (y 0 : ℕ) = g.val + (x 0 : ℕ)) (e1 : (y 1 : ℕ) = (x 1 : ℕ)) (e2 : (y 2 : ℕ) = (x 2 : ℕ)) :
    p x = picked x1 (image x0 (y 0)) (ix2 (y 1) (y 2)) := by
  have hx0 : (x 0 : ℕ) < 1 := (x 0).isLt
  have hy : y 0 = g := Fin.ext (by omega)
  rw [hp, slab x0 g off h inb, whole, hy]
  refine (shapeCast_addUnit_apply _ _ _ x).trans ?_
  congr 1
  funext a
  fin_cases a
  · exact Fin.ext e1.symm
  · exact Fin.ext e2.symm

/-- One stored image of entry numbers, read at a place of the block. -/
theorem piece3 (x0 : Vec F S8x64x1024 .f32) (x1 : Vec F S1024x64 .f32) (g : Fin 8) (off : Fin 3 → ℕ)
    (inb : ∀ a, off a + S1x64x1024.size a ≤ S8x64x1024.size a) (p : IVec S1x1x1024 32)
    (hp : p = shapeCast S1x1x1024 (nearest (View.ld x1 r0_0)
      (shapeCast S64x1024 (View.ld x0 (Rect.unit (s := S8x64x1024) off S1x64x1024.size inb)) shapeCasts_S1x64x1024_S64x1024))
      shapeCasts_S1024_S1x1x1024)
    (x : S1x1x1024.Idx) (y : S8x1x1024.Idx) (h : off = ![g.val, 0, 0])
    (e0 : (y 0 : ℕ) = g.val + (x 0 : ℕ)) (e2 : (y 2 : ℕ) = (x 2 : ℕ)) :
    p x = nearest x1 (image x0 (y 0)) (ix1 (y 2)) := by
  have hx0 : (x 0 : ℕ) < 1 := (x 0).isLt
  have hx1 : (x 1 : ℕ) < 1 := (x 1).isLt
  have hy : y 0 = g := Fin.ext (by omega)
  rw [hp, slab x0 g off h inb, whole, hy]
  rw [show y 2 = x 2 from Fin.ext e2]
  generalize nearest x1 (image x0 g) = v
  idx_vars x
  pointwise

/-- The block of quantised values. -/
theorem out2_at (x0 : Vec F S8x64x1024 .f32) (x1 : Vec F S1024x64 .f32) (y : S8x64x1024.Idx) :
    out0_2 x0 x1 y = picked x1 (image x0 (y 0)) (ix2 (y 1) (y 2)) := by
  unfold_out out0_2
  canon_tiles x h
  · exact piece2 x0 x1 7 _ _ _ rfl x y rfl h0 h1 h2
  · exact piece2 x0 x1 6 _ _ _ rfl x y rfl h0 h1 h2
  · exact piece2 x0 x1 5 _ _ _ rfl x y rfl h0 h1 h2
  · exact piece2 x0 x1 4 _ _ _ rfl x y rfl h0 h1 h2
  · exact piece2 x0 x1 3 _ _ _ rfl x y rfl h0 h1 h2
  · exact piece2 x0 x1 2 _ _ _ rfl x y rfl h0 h1 h2
  · exact piece2 x0 x1 1 _ _ _ rfl x y rfl h0 h1 h2
  · exact piece2 x0 x1 0 _ _ _ rfl x y rfl (h0.trans (Nat.zero_add _).symm) h1 h2

/-- The block of entry numbers. -/
theorem out3_at (x0 : Vec F S8x64x1024 .f32) (x1 : Vec F S1024x64 .f32) (y : S8x1x1024.Idx) :
    out0_3 x0 x1 y = nearest x1 (image x0 (y 0)) (ix1 (y 2)) := by
  unfold_out out0_3
  canon_tiles x h
  · exact piece3 x0 x1 7 _ inb_S8x64x1024_S1x64x1024_7_0_0 _ rfl x y rfl h0 h2
  · exact piece3 x0 x1 6 _ inb_S8x64x1024_S1x64x1024_6_0_0 _ rfl x y rfl h0 h2
  · exact piece3 x0 x1 5 _ inb_S8x64x1024_S1x64x1024_5_0_0 _ rfl x y rfl h0 h2
  · exact piece3 x0 x1 4 _ inb_S8x64x1024_S1x64x1024_4_0_0 _ rfl x y rfl h0 h2
  · exact piece3 x0 x1 3 _ inb_S8x64x1024_S1x64x1024_3_0_0 _ rfl x y rfl h0 h2
  · exact piece3 x0 x1 2 _ inb_S8x64x1024_S1x64x1024_2_0_0 _ rfl x y rfl h0 h2
  · exact piece3 x0 x1 1 _ inb_S8x64x1024_S1x64x1024_1_0_0 _ rfl x y rfl h0 h2
  · exact piece3 x0 x1 0 _ inb_S8x64x1024_S1x64x1024_0_0_0 _ rfl x y rfl (h0.trans (Nat.zero_add _).symm) h2

/-- The block of squared errors: the block's sum at every place. -/
theorem out4_at (x0 : Vec F S8x64x1024 .f32) (x1 : Vec F S1024x64 .f32) (y : S1x8x128.Idx) :
    out0_4 x0 x1 y = errs x1 x0 := by
  unfold_out out0_4
  canon_tiles x h
  have e : ∀ (g : Fin 8) (off : Fin 3 → ℕ) (_ : off = ![g.val, 0, 0]) (inb : ∀ a, off a + S1x64x1024.size a ≤ S8x64x1024.size a),
      err x1 (image x0 g) = err (View.ld x1 r0_0)
        (shapeCast S64x1024 (View.ld x0 (Rect.unit (s := S8x64x1024) off S1x64x1024.size inb)) shapeCasts_S1x64x1024_S64x1024) :=
    fun g off h inb => by rw [slab x0 g off h inb, whole]
  simp only [errs, List.foldl_cons, List.foldl_nil]
  rw [e 0 _ rfl inb_S8x64x1024_S1x64x1024_0_0_0, e 1 _ rfl inb_S8x64x1024_S1x64x1024_1_0_0, e 2 _ rfl inb_S8x64x1024_S1x64x1024_2_0_0, e 3 _ rfl inb_S8x64x1024_S1x64x1024_3_0_0, e 4 _ rfl inb_S8x64x1024_S1x64x1024_4_0_0, e 5 _ rfl inb_S8x64x1024_S1x64x1024_5_0_0, e 6 _ rfl inb_S8x64x1024_S1x64x1024_6_0_0, e 7 _ rfl inb_S8x64x1024_S1x64x1024_7_0_0]
  rfl

end Cert.Vq.Block

end
-- ==== Proof.Arrays.lean ====
/-
  What the kernel's three output arrays hold after the launch: each image's own function of the codebook and the image.
-/
module

public import proofs.«01_k».proof.Proof.Block

@[expose] public section

set_option maxRecDepth 16384

noncomputable section

namespace Cert.Vq.Arrays

open Cert.KernelIdeal Cert.KernelIdeal.Gen Cert.Vq.Block
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ)

/-- Image `b` of the sixteen. -/
def pic (z : Vec F S16x64x1024 .f32) (b : Fin 16) : FVec F S64x1024 .f32 := fun j => z (ix3 b (j 0) (j 1))

/-- Block `t` of the sixteen images. -/
def octet (z : Vec F S16x64x1024 .f32) (t : Fin 2) : Vec F S8x64x1024 .f32 :=
  fun y => z (ix3 ⟨t.val * 8 + (y 0).val, by have h0 : (y 0).val < 8 := (y 0).isLt; omega⟩ (y 1) (y 2))

/-- At grid point `t` every window but the codebook's is at block `t`; the codebook's stays at its start. -/
theorem idx : ∀ t : Fin grid0.N,
    (win0_0.index t 0 = t.val ∧ win0_0.index t 1 = 0 ∧ win0_0.index t 2 = 0)
      ∧ (win0_1.index t 0 = 0 ∧ win0_1.index t 1 = 0)
      ∧ (win0_2.index t 0 = t.val ∧ win0_2.index t 1 = 0 ∧ win0_2.index t 2 = 0)
      ∧ (win0_3.index t 0 = t.val ∧ win0_3.index t 1 = 0 ∧ win0_3.index t 2 = 0)
      ∧ (win0_4.index t 0 = t.val ∧ win0_4.index t 1 = 0 ∧ win0_4.index t 2 = 0) := by decide +kernel

/-- The codebook's block is the codebook. -/
theorem iblk1 (c : Dev nD) (t : Fin grid0.N) : iblk m c 1 t = V m c main_arg1 := by
  blk_ext! [iblk, idx t]

/-- The images' block at a point. -/
theorem iblk0 (c : Dev nD) (t : Fin grid0.N) : iblk m c 0 t = octet (V m c main_v0) t := by
  funext y
  unfold octet
  blk_ext [iblk, idx t]

/-- Image `g` of block `t` is image `8 t + g` of the sixteen. -/
theorem image_octet (z : Vec F S16x64x1024 .f32) (t : Fin 2) (g : Fin 8) (b : Fin 16) (h : b.val = t.val * 8 + g.val) :
    image (octet z t) g = pic z b := by
  funext j
  exact congrArg (fun n => z (ix3 n (j 0) (j 1))) (Fin.ext h.symm : (⟨t.val * 8 + g.val, by omega⟩ : Fin 16) = b)

/-- Where an element of block `t` lies in the array of quantised values. -/
theorem emb2 (t : Fin grid0.N) (y : S8x64x1024.Idx) :
    ((win0_2.blk t).view.emb y 0).val = t.val * 8 + (y 0).val ∧ (win0_2.blk t).view.emb y 1 = y 1
      ∧ (win0_2.blk t).view.emb y 2 = y 2 := by
  refine ⟨?_, Fin.ext ?_, Fin.ext ?_⟩ <;> blk_simp [idx t]

/-- Where an element of block `t` lies in the array of code indices. -/
theorem emb3 (t : Fin grid0.N) (y : S8x1x1024.Idx) :
    ((win0_3.blk t).view.emb y 0).val = t.val * 8 + (y 0).val ∧ (win0_3.blk t).view.emb y 2 = y 2 := by
  refine ⟨?_, Fin.ext ?_⟩ <;> blk_simp [idx t]

/-- Block `t` of the array of error totals is its row `t`. -/
theorem emb4 (t : Fin grid0.N) (y : S1x8x128.Idx) : (win0_4.blk t).view.emb y 0 = t := by
  have h0 : (y 0).val < 1 := (y 0).isLt
  refine Fin.ext ?_
  blk_simp [idx t]

/-- The array of quantised values. -/
theorem arr2 (c : Dev nD) : (dats m 0 c).arrAt 2 cfg0.N
    = fun i : S16x64x1024.Idx => picked (V m c main_arg1) (pic (V m c main_v0) (i 0)) (ix2 (i 1) (i 2)) := by
  refine (dats m 0 c).arrAt_eq_of_covers 2 _ (by decide +kernel) fun t _ y => ?_
  blk_simp
  obtain ⟨e0, e1, e2⟩ := emb2 t y
  rw [after0_2, out2_at, iblk1, iblk0, image_octet _ t _ _ e0, e1, e2]

/-- The array of code indices. -/
theorem arr3 (c : Dev nD) : (dats m 0 c).arrAt 3 cfg0.N
    = fun i : S16x1x1024.Idx => nearest (V m c main_arg1) (pic (V m c main_v0) (i 0)) (ix1 (i 2)) := by
  refine (dats m 0 c).arrAt_eq_of_covers 3 _ (by decide +kernel) fun t _ y => ?_
  blk_simp
  obtain ⟨e0, e2⟩ := emb3 t y
  rw [after0_3, out3_at, iblk1, iblk0, image_octet _ t _ _ e0, e2]

/-- The array of error totals: block `t` holds the total of its eight images at every position. -/
theorem arr4 (c : Dev nD) : (dats m 0 c).arrAt 4 cfg0.N
    = fun i : S2x8x128.Idx => errs (V m c main_arg1) (octet (V m c main_v0) (i 0)) := by
  refine (dats m 0 c).arrAt_eq_of_covers 4 _ (by decide +kernel) fun t _ y => ?_
  blk_simp
  rw [after0_4, out4_at, iblk1, iblk0, emb4]

end Cert.Vq.Arrays

end
-- ==== Proof.KernelRun.lean ====
/-
  What the whole kernel program returns, as functions of its two arguments.
-/
module

public import proofs.«01_k».proof.Proof.Arrays
public import Idealize.ShloMosaic.Lib.StableHlo.RunRead
public import Idealize.ShloMosaic.Lib.Tactic

@[expose] public section

set_option maxRecDepth 16384

noncomputable section

namespace Cert.Vq.KernelRun

open Cert.KernelIdeal Cert.KernelIdeal.Gen Cert.Vq.Block Cert.Vq.Arrays
open Idealize.ShloMosaic Idealize.ShloMosaic.TcCoe Idealize.SL.Sem
open Idealize.ShloMosaic.Pipeline (Dat Cfg Window)

variable {F : FTy → Type} [FloatOps F]

/-- The images with their two spatial axes joined. -/
def joined (z : FVec F S16x64x32x32 .f32) : FVec F S16x64x1024 .f32 := shapeCast S16x64x1024 z shapeCasts_S16x64x32x32_S16x64x1024

/-- The quantised images. -/
def quantised (z : FVec F S16x64x32x32 .f32) (w : FVec F S1024x64 .f32) : FVec F S16x64x32x32 .f32 :=
  shapeCast S16x64x32x32 (fun i : S16x64x1024.Idx => picked w (pic (joined z) (i 0)) (ix2 (i 1) (i 2)))
    shapeCasts_S16x64x1024_S16x64x32x32

/-- The code indices. -/
def indices (z : FVec F S16x64x32x32 .f32) (w : FVec F S1024x64 .f32) : IVec S16x32x32 32 :=
  shapeCast S16x32x32 (fun i : S16x1x1024.Idx => nearest w (pic (joined z) (i 0)) (ix1 (i 2))) shapeCasts_S16x1x1024_S16x32x32

/-- The mean squared error, from the totals of the two blocks. -/
def meanErr (z : FVec F S16x64x32x32 .f32) (w : FVec F S1024x64 .f32) : FVec F S_ .f32 :=
  Host.divf
    (Host.reduceAdd
      (shapeCast S2
        (extractStridedSlice S2x1x1 ![0, 0, 0] (fun i : S2x8x128.Idx => errs w (octet (joined z) (i 0)))
          slices_S2x8x128_S2x1x1_0_0_0)
        shapeCasts_S2x1x1_S2)
      (constant S_ .f32 0x00000000) reducesTo_S2_S_d0 h_S_)
    (constant S_ .f32 0x49800000)

variable (m : (ℓ : Loc nD τ sig) → Buf (Elt F) ℓ)

/-- The call finds the images with their spatial axes joined. -/
theorem V_main_v0 (c : Dev nD) : V m c main_v0 = joined (m (c.tc.loc main_arg0)) := by
  unfold V V0 hostOps0
  after_reads_simp
  rfl

/-- The buffers of core `c` when the call returns. -/
def left (c : Dev nD) : Valuation τ sig (Elt F) :=
  Pipeline.withArrays (cfgs 0).spec c (V0 m c) (fun w => (dats m 0 c).arrAt w (cfgs 0).N)

/-- The call leaves the quantised values of every image. -/
theorem left_v1_0 (c : Dev nD) : left m c (Proc.devRef .tc main_v1_0) = fun i : S16x64x1024.Idx =>
    picked (m (c.tc.loc main_arg1)) (pic (joined (m (c.tc.loc main_arg0))) (i 0)) (ix2 (i 1) (i 2)) := by
  refine (Pipeline.withArrays_arr spec0 (by decide) c (V0 m c) (fun w => (dats m 0 c).arrAt w (cfgs 0).N) 2).trans ?_
  rw [← V_main_v0, ← V_main_arg1 m c]
  exact arr2 m c

/-- The call leaves the code indices of every image. -/
theorem left_v1_1 (c : Dev nD) : left m c (Proc.devRef .tc main_v1_1) = fun i : S16x1x1024.Idx =>
    nearest (m (c.tc.loc main_arg1)) (pic (joined (m (c.tc.loc main_arg0))) (i 0)) (ix1 (i 2)) := by
  refine (Pipeline.withArrays_arr spec0 (by decide) c (V0 m c) (fun w => (dats m 0 c).arrAt w (cfgs 0).N) 3).trans ?_
  rw [← V_main_v0, ← V_main_arg1 m c]
  exact arr3 m c

/-- The call leaves the error total of each block of eight images. -/
theorem left_v1_2 (c : Dev nD) : left m c (Proc.devRef .tc main_v1_2) = fun i : S2x8x128.Idx =>
    errs (m (c.tc.loc main_arg1)) (octet (joined (m (c.tc.loc main_arg0))) (i 0)) := by
  refine (Pipeline.withArrays_arr spec0 (by decide) c (V0 m c) (fun w => (dats m 0 c).arrAt w (cfgs 0).N) 4).trans ?_
  rw [← V_main_v0, ← V_main_arg1 m c]
  exact arr4 m c

/-- What the program ends with is what its host operations after the call make of what the call leaves. -/
theorem tail_eq (c : Dev nD) (b : Ref sig .tc) : Pipeline.afterTail₀ cfgs (dats m) 0 (V0 m) [hostOps1] c b
    = StableHlo.after hostOps1 (left m c) (Proc.devRef .tc b) := by
  unfold Pipeline.afterTail₀
  simp only [List.flatten_cons, List.flatten_nil, List.append_nil]
  rfl

/-- The first result. -/
theorem tail_v2 (c : Dev nD) : Pipeline.afterTail₀ cfgs (dats m) 0 (V0 m) [hostOps1] c main_v2
    = quantised (m (c.tc.loc main_arg0)) (m (c.tc.loc main_arg1)) := by
  rw [tail_eq]
  unfold hostOps1
  after_reads_simp
  rw [left_v1_0]
  rfl

/-- The second result. -/
theorem tail_v3 (c : Dev nD) : Pipeline.afterTail₀ cfgs (dats m) 0 (V0 m) [hostOps1] c main_v3
    = indices (m (c.tc.loc main_arg0)) (m (c.tc.loc main_arg1)) := by
  rw [tail_eq]
  unfold hostOps1
  after_reads_simp
  rw [left_v1_1]
  rfl

/-- The third result. -/
theorem tail_v7 (c : Dev nD) : Pipeline.afterTail₀ cfgs (dats m) 0 (V0 m) [hostOps1] c main_v7
    = meanErr (m (c.tc.loc main_arg0)) (m (c.tc.loc main_arg1)) := by
  rw [tail_eq]
  unfold hostOps1
  after_reads_simp
  rw [left_v1_2]
  rfl

/-- The fourth result. -/
theorem tail_v8 (c : Dev nD) : Pipeline.afterTail₀ cfgs (dats m) 0 (V0 m) [hostOps1] c main_v8
    = mulf (constant S_ .f32 0x3E800000) (meanErr (m (c.tc.loc main_arg0)) (m (c.tc.loc main_arg1))) := by
  rw [tail_eq]
  unfold hostOps1
  after_reads_simp
  rw [left_v1_2]
  rfl

/-- Every run of the kernel program leaves its four results and its arguments so. -/
theorem run (ρ : Dev nD → PrngReg) : θ_run defs (onTc (τ := τ) (main (F := F))) (s₀ m ρ) fun r => ∀ c : Dev nD,
    (r.2.mem (c.tc.loc main_v2) = quantised (m (c.tc.loc main_arg0)) (m (c.tc.loc main_arg1))
      ∧ r.2.mem (c.tc.loc main_v3) = indices (m (c.tc.loc main_arg0)) (m (c.tc.loc main_arg1))
      ∧ r.2.mem (c.tc.loc main_v7) = meanErr (m (c.tc.loc main_arg0)) (m (c.tc.loc main_arg1))
      ∧ r.2.mem (c.tc.loc main_v8)
        = mulf (constant S_ .f32 0x3E800000) (meanErr (m (c.tc.loc main_arg0)) (m (c.tc.loc main_arg1))))
      ∧ r.2.mem (c.tc.loc main_arg0) = m (c.tc.loc main_arg0) ∧ r.2.mem (c.tc.loc main_arg1) = m (c.tc.loc main_arg1) :=
  (θ_run defs _ _).mono (fun _ h c =>
    have rest (b : Ref sig .tc) hb hw := (h c).2 b (Pipeline.mem_restRefs_of b hb hw)
    ⟨⟨(rest main_v2 (by decide) (by decide)).trans (tail_v2 m c), (rest main_v3 (by decide) (by decide)).trans (tail_v3 m c),
      (rest main_v7 (by decide) (by decide)).trans (tail_v7 m c), (rest main_v8 (by decide) (by decide)).trans (tail_v8 m c)⟩,
      (rest main_arg0 (by decide) (by decide)).trans (W_main_arg0 m (dats m) c),
      ((h c).1 1).trans (((dats m 0 c).arrAt_in 1 rfl _).trans (V_main_arg1 m c))⟩) (run_main m ρ)

end Cert.Vq.KernelRun

end
-- ==== Proof.First.lean ====
/-
  The least index at which a family of extended reals attains its minimum, and the folds that find it.
-/
module

public import Idealize.ShloMosaic.Lib.Pipeline.ValueKit

@[expose] public section

noncomputable section

namespace Cert.Vq.First

open Idealize.ShloMosaic Idealize.SL.Sem

/-- `n` is the least index at which `f` attains its minimum. -/
def IsFirst {N : ℕ} (f : Fin N → EReal) (n : Fin N) : Prop := ∀ k, f n ≤ f k ∧ (k < n → f n < f k)

/-- Every nonempty finite family has such an index. -/
theorem exists_isFirst {N : ℕ} [NeZero N] (f : Fin N → EReal) : ∃ n, IsFirst f n := by
  obtain ⟨a, -, ha⟩ := Finset.exists_min_image Finset.univ f ⟨0, Finset.mem_univ _⟩
  obtain ⟨n, hn, hmin⟩ := Finset.exists_min_image (Finset.univ.filter fun k => f k = f a) id ⟨a, by simp⟩
  have hna : f n = f a := (Finset.mem_filter.1 hn).2
  refine ⟨n, fun k => ⟨hna ▸ ha k (Finset.mem_univ _), fun hk => ?_⟩⟩
  refine lt_of_le_of_ne (hna ▸ ha k (Finset.mem_univ _)) fun h => ?_
  exact absurd (hmin k (Finset.mem_filter.2 ⟨Finset.mem_univ _, h.symm.trans hna⟩)) (not_le.2 hk)

/-- The fold of minima from the greatest extended real is the least value. -/
theorem fold_min_eq {N : ℕ} (f : Fin N → EReal) (n : Fin N) (h : ∀ k, f n ≤ f k) :
    Finset.univ.fold min ⊤ f = f n :=
  le_antisymm ((Finset.fold_min_le _).2 (.inr ⟨n, Finset.mem_univ _, le_rfl⟩))
    ((Finset.le_fold_min _).2 ⟨le_top, fun k _ => h k⟩)

/-- The integer of the signed minimum of two words is the minimum of their integers. -/
theorem minsi_toInt (a b : BitVec 32) : (IntOp.minsi a b).toInt = min a.toInt b.toInt := by
  unfold IntOp.minsi
  rw [BitVec.slt_eq_decide]
  by_cases h : a.toInt < b.toInt
  · rw [if_pos (decide_eq_true h), min_eq_left h.le]
  · rw [if_neg (by simpa using h), min_eq_right (not_lt.1 h)]

/-- The integer of a small number's word. -/
theorem word_toInt (n : ℕ) (h : n < 2 ^ 31) : (BitVec.ofNat 32 n).toInt = n := by
  have h2 : n % 4294967296 = n := Nat.mod_eq_of_lt (by omega)
  rw [BitVec.toInt_eq_toNat_cond, BitVec.toNat_ofNat]
  simp only [Nat.reducePow, h2]
  rw [if_pos (by omega)]

/-- The fold of signed minima over the indices of the minimum, the others standing as a large number, is the least
    of those indices. -/
theorem fold_minsi_eq (f : Fin 1024 → EReal) (n : Fin 1024) (h : IsFirst f n) :
    Finset.univ.fold IntOp.minsi 2147483647#32 (fun k => if f k = f n then BitVec.ofNat 32 k.val else 1073741824#32)
      = BitVec.ofNat 32 n.val := by
  refine BitVec.eq_of_toInt_eq ?_
  rw [← Finset.fold_hom (op' := min) (m := BitVec.toInt) minsi_toInt, word_toInt n.val (by omega)]
  have top : (2147483647#32).toInt = 2147483647 := by decide
  have big : (1073741824#32).toInt = 1073741824 := by decide
  refine le_antisymm ((Finset.fold_min_le _).2 (.inr ⟨n, Finset.mem_univ _, ?_⟩)) ((Finset.le_fold_min _).2 ⟨by omega, fun k _ => ?_⟩)
  · rw [if_pos rfl, word_toInt n.val (by omega)]
  · by_cases hk : f k = f n
    · rw [if_pos hk, word_toInt k.val (by omega)]
      have : ¬ k < n := fun hlt => (h k).2 hlt |>.ne hk.symm
      exact_mod_cast not_lt.1 this
    · rw [if_neg hk, big]; omega

/-! Folding pairs of a value and a word by the lexicographically lesser one. -/

/-- The first pair comes before the second: a lesser value, or the same value and a lesser word. -/
def Before (a b : EReal × BitVec 32) : Prop := a.1 < b.1 ∨ (a.1 = b.1 ∧ a.2.toInt < b.2.toInt)

open Classical in
/-- The earlier of two pairs. -/
def lesser (a b : EReal × BitVec 32) : EReal × BitVec 32 := if Before a b then a else b

/-- A pair that comes before every other of a list survives the fold. -/
theorem foldl_lesser_stay (p : EReal × BitVec 32) (l : List (EReal × BitVec 32)) (h : ∀ q ∈ l, q = p ∨ Before p q) :
    l.foldl lesser p = p := by
  induction l with
  | nil => rfl
  | cons q l ih =>
    rw [List.foldl_cons]
    have hq : lesser p q = p := by
      unfold lesser
      rcases h q List.mem_cons_self with rfl | hb
      · split <;> rfl
      · rw [if_pos hb]
    rw [hq]
    exact ih fun r hr => h r (List.mem_cons_of_mem _ hr)

/-- A member that comes before every other pair of a list, and before the initial one, is what the fold finds. -/
theorem foldl_lesser_eq (p : EReal × BitVec 32) (l : List (EReal × BitVec 32)) (h : ∀ q ∈ l, q = p ∨ Before p q)
    (hp : p ∈ l) (a : EReal × BitVec 32) (ha : Before p a) : l.foldl lesser a = p := by
  induction l generalizing a with
  | nil => cases hp
  | cons q l ih =>
    rw [List.foldl_cons]
    have hl : ∀ r ∈ l, r = p ∨ Before p r := fun r hr => h r (List.mem_cons_of_mem _ hr)
    by_cases hqp : q = p
    · subst hqp
      have : ¬ Before a q := by
        unfold Before at ha ⊢
        rintro (h1 | ⟨h1, h2⟩) <;> rcases ha with h3 | ⟨h3, h4⟩
        · exact lt_asymm h1 h3
        · exact h1.ne h3.symm
        · exact h3.ne h1.symm
        · omega
      unfold lesser
      rw [if_neg this]
      exact foldl_lesser_stay q l hl
    · have hq : Before p q := (h q List.mem_cons_self).resolve_left hqp
      have hm : p ∈ l := (List.mem_cons.1 hp).resolve_left (Ne.symm hqp)
      refine ih hl hm _ ?_
      unfold lesser
      split
      · exact ha
      · exact hq

end Cert.Vq.First

end
-- ==== Proof.BlockIdeal.lean ====
/-
  One image's block over the extended reals: the scores, the nearest entry, the entry itself and its squared error, read
  at an index.
-/
module

public import proofs.«01_k».proof.Proof.Block
public import proofs.«01_k».proof.Proof.First
public import Idealize.ShloMosaic.Lib.Pipeline.ValueKit

@[expose] public section

set_option maxRecDepth 16384

noncomputable section

namespace Cert.Vq.BlockIdeal

open Cert.KernelIdeal Cert.KernelIdeal.Gen Cert.Vq.Block Cert.Vq.First
open Idealize.ShloMosaic Idealize.ShloMosaic.TcCoe Idealize.SL.Sem

/-- The word of plus infinity is the greatest extended real. -/
theorem inf_eq : Ideal.ofBits .f32 2139095040#32 = ⊤ := by simp [Ideal.ofBits, Ideal.ieee]

/-- A score: the two squared lengths and the product with the scaled codebook. -/
theorem score_at (w : FVec Ideal S1024x64 .f32) (x : FVec Ideal S64x1024 .f32) (k p : Fin 1024) :
    score w x (ix2 k p) = ((∑ d, x (ix2 d p) * x (ix2 d p)) + ∑ d, w (ix2 k d) * w (ix2 k d))
      + ∑ d, Ideal.ofBits .f32 0xC0000000#32 * w (ix2 k d) * x (ix2 d p) := by
  pointwise [score]

/-- The search down a column finds the least index of its minimum. -/
theorem first_at (s : FVec Ideal S1024x1024 .f32) (p n : Fin 1024) (h : IsFirst (fun k => s (ix2 k p)) n) :
    first s (ix1 p) = BitVec.ofNat 32 n.val := by
  pointwise [first]
  rw [inf_eq, fold_min_eq (fun k => s (ix2 k p)) n fun k => (h k).1]
  exact fold_minsi_eq _ n h

/-- A word read as a signed number. -/
theorem sitofp_eq (x : BitVec 32) : (FloatOps.sitofp .f32 x : Ideal .f32) = ((x.toInt : ℝ) : EReal) := rfl

/-- The product with a one-hot column is the codebook's row of that number. -/
theorem pick_at (w : FVec Ideal S1024x64 .f32) (i : IVec S1024 32) (d : Fin 64) (p n : Fin 1024)
    (h : i (ix1 p) = BitVec.ofNat 32 n.val) : pick w i (ix2 d p) = w (ix2 n d) := by
  pointwise [pick]
  rw [h, Finset.sum_eq_single n]
  · have e : (1#32).toInt = 1 := by decide
    simp [IntOp.cmpi, sitofp_eq, e]
  · intro k _ hk
    have ne : (BitVec.ofNat 32 k.val == BitVec.ofNat 32 n.val) = false := by
      refine beq_eq_false_iff_ne.2 fun e => hk (Fin.ext ?_)
      have e' := congrArg BitVec.toInt e
      rw [word_toInt k.val (by omega), word_toInt n.val (by omega)] at e'
      exact_mod_cast e'
    simp [IntOp.cmpi, sitofp_eq, ne]
  · intro hn
    exact absurd (Finset.mem_univ n) hn

/-- The sum of squares is the double sum. -/
theorem sumSq_at (d : FVec Ideal S64x1024 .f32) : sumSq d = ∑ c : Fin 64, ∑ p : Fin 1024, d (ix2 c p) * d (ix2 c p) := by
  pointwise [sumSq]

/-- The squared errors of a block's images, summed. -/
theorem errs_at (w : FVec Ideal S1024x64 .f32) (x : FVec Ideal S8x64x1024 .f32) :
    errs w x = ∑ g : Fin 8, err w (image x g) := by
  unfold errs
  simp only [Fin.sum_univ_eight, List.foldl_cons, List.foldl_nil]
  simp [Ideal.ofBits_zero_f32]

end Cert.Vq.BlockIdeal

end
-- ==== Proof.RefRun.lean ====
/-
  The run of the reference program: its operations in order, as one straight line, and what every
  buffer holds at the end.
-/
module

public import proofs.«01_k».proof.Proof.Gen.ReferenceIdeal
public import Idealize.ShloMosaic.Lib.StableHlo.RunHlo
public import Idealize.ShloMosaic.Lib.StableHlo.RunRead
public import Idealize.ShloMosaic.Lib.Quiescent
public import Idealize.ShloMosaic.Lib.Tactic

@[expose] public section

set_option maxRecDepth 16384

noncomputable section

namespace Cert.Vq.RefRun

open Cert.ReferenceIdeal Cert.ReferenceIdeal.Gen
open Idealize.ShloMosaic Idealize.ShloMosaic.TcCoe Idealize.ShloMosaic.StableHlo Idealize.SL.Sem

variable {F : FTy → Type} [FloatOps F]

/-- The values that a two-operand reduction finds. -/
def values {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t) (hu : 0 < u.numel) :
    FVec F t .f32 := fun j => (Host.argReduce f x y ix iy h hu j).1

/-- The words that stand beside them. -/
def words {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t) (hu : 0 < u.numel) :
    IVec t 32 := fun j => (Host.argReduce f x y ix iy h hu j).2

/-- The least value of each row, from the initial pair. -/
def minValue (x : FVec F S16384x1024 .f32) (y : IVec S16384x1024 32) (u : FVec F S_ .f32) (v : IVec S_ 32) : FVec F S16384 .f32 :=
  values reducer_argmin_f32_i32 x y u v reducesTo_S16384x1024_S16384_d1 h_S_

/-- The index that stands beside the least value of each row. -/
def minIndex (x : FVec F S16384x1024 .f32) (y : IVec S16384x1024 32) (u : FVec F S_ .f32) (v : IVec S_ 32) : IVec S16384 32 :=
  words reducer_argmin_f32_i32 x y u v reducesTo_S16384x1024_S16384_d1 h_S_

/-- The reference's operations in order, its three functions' bodies in place of their calls. -/
abbrev ops : List (HloOp τ sig (Elt F)) :=
  [ unary main_arg0 main_v0 ((transpose S16x32x32x64 [0, 2, 3, 1] · transposes_S16x64x32x32_S16x32x32x64_0_2_3_1)),
    reshape main_v0 main_v1 (rfl : (.f32 : EltTy) = .f32) shapeCasts_S16x32x32x64_S16384x64,
    binary main_v1 main_v1 main_v2 mulf,
    nullary main_cst (constant S_ .f32 0x00000000#32),
    binary main_v2 main_cst main_v3 ((fun x v => Host.reduceAdd x v reducesTo_S16384x64_S16384_d1 h_S_)),
    unary main_v3 main_v4 (broadcastInDim S16384x1 ![0] bcast_S16384_S16384x1_0),
    binary main_arg1 main_arg1 main_v5 mulf,
    nullary main_cst_0 (constant S_ .f32 0x00000000#32),
    binary main_v5 main_cst_0 main_v6 ((fun x v => Host.reduceAdd x v reducesTo_S1024x64_S1024_d1 h_S_)),
    unary main_v6 main_v7 (broadcastInDim S1x1024 ![1] bcast_S1024_S1x1024_1),
    unary main_v4 main_v8 (broadcastInDim S16384x1024 ![0, 1] bcast_S16384x1_S16384x1024_0_1),
    unary main_v7 main_v9 (broadcastInDim S16384x1024 ![0, 1] bcast_S1x1024_S16384x1024_0_1),
    binary main_v8 main_v9 main_v10 addf,
    unary main_arg1 main_v11 ((transpose S64x1024 [1, 0] · transposes_S1024x64_S64x1024_1_0)),
    binary main_v1 main_v11 main_v12 ((fun l r => Host.dotGeneral dot_S16384x64_S64x1024_S16384x1024_1_0_0_1_n_n none l r)),
    nullary main_cst_1 (constant S_ .f32 0x40000000#32),
    unary main_cst_1 main_v13 (broadcastInDim S16384x1024 ![] bcast_S_S16384x1024),
    binary main_v13 main_v12 main_v14 mulf,
    binary main_v10 main_v14 main_v15 subf,
    TRef.nullary main_call0.v0 (iotaInDim S16384x1024 32 1),
    TRef.nullary main_call0.cst (constant S_ .f32 0x7F800000#32),
    TRef.nullary main_call0.c (constantI S_ 32 0#32),
    TRef.quaternary (.of main_v15) main_call0.v0 main_call0.cst main_call0.c main_call0.v1_0 minValue,
    TRef.quaternary (.of main_v15) main_call0.v0 main_call0.cst main_call0.c main_call0.v1_1 minIndex,
    reshape main_v16 main_v17 (rfl : (.i32 : EltTy) = .i32) shapeCasts_S16384_S16x32x32,
    TRef.nullary main_call1.c (constantI S_ 32 0#32),
    TRef.unary main_call1.c main_call1.v0 (broadcastInDim S16384 ![] bcast_S_S16384),
    TRef.binary (.of main_v16) main_call1.v0 main_call1.v1 (cmpi .slt),
    TRef.nullary main_call1.c_0 (constantI S_ 32 1024#32),
    TRef.unary main_call1.c_0 main_call1.v2 (broadcastInDim S16384 ![] bcast_S_S16384),
    TRef.binary (.of main_v16) main_call1.v2 main_call1.v3 addi,
    TRef.ternary main_call1.v1 main_call1.v3 (.of main_v16) main_call1.call0.v0 select,
    TRef.unary main_call1.call0.v0 main_call1.v5 (broadcastInDim S16384x1 ![0] bcast_S16384_S16384x1_0),
    TRef.nullary main_call1.c_1 (constantI S1 32 1023#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg1) main_call1.v5 main_call1.v13 (fun x i => Host.gather gather_S1024x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select,
    reshape main_v18 main_v19 (rfl : (.f32 : EltTy) = .f32) shapeCasts_S16384x64_S16x32x32x64,
    unary main_v19 main_v20 ((transpose S16x64x32x32 [0, 3, 1, 2] · transposes_S16x32x32x64_S16x64x32x32_0_3_1_2)),
    binary main_v20 main_arg0 main_v21 subf,
    binary main_arg0 main_v21 main_v22 addf,
    binary main_v20 main_arg0 main_v23 subf,
    binary main_v23 main_v23 main_v24 mulf,
    nullary main_cst_2 (constant S_ .f32 0x00000000#32),
    binary main_v24 main_cst_2 main_v25 ((fun x v => Host.reduceAdd x v reducesTo_S16x64x32x32_S_d0_1_2_3 h_S_)),
    nullary main_cst_3 (constant S_ .f32 0x49800000#32),
    binary main_v25 main_cst_3 main_v26 Host.divf,
    binary main_arg0 main_v20 main_v27 subf,
    binary main_v27 main_v27 main_v28 mulf,
    nullary main_cst_4 (constant S_ .f32 0x00000000#32),
    binary main_v28 main_cst_4 main_v29 ((fun x v => Host.reduceAdd x v reducesTo_S16x64x32x32_S_d0_1_2_3 h_S_)),
    nullary main_cst_5 (constant S_ .f32 0x49800000#32),
    binary main_v29 main_cst_5 main_v30 Host.divf,
    nullary main_cst_6 (constant S_ .f32 0x3E800000#32),
    binary main_cst_6 main_v30 main_v31 mulf ]

/-- The reference program is that straight line. -/
theorem main_eq (c : Dev nD) : main (F := F) c = seq ops := rfl

/-- Every operation touches buffers of the core it runs on. -/
theorem ops_sub : (ops : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, reshape_bufs_sub, and_self]

/-- No buffer of the reference is scoped. -/
theorem scopedRefs_eq : (Finset.univ.filter fun b : Ref sig .tc => b.isScoped) = ∅ := by decide

/-- No counter of the reference is scoped. -/
theorem scopedSems_eq : (Finset.univ.filter fun sm : SemLoc sig => sm.isScoped .tc) = ∅ := by decide

/-- Every buffer ends at the operations' results folded over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The operations leave the first argument as it was. -/
theorem arg0_eq (V : Valuation τ sig (Elt F)) :
    after ops V (main_arg0 : DevRef τ sig) = V (main_arg0 : DevRef τ sig) := by
  after_reads_simp

/-- The operations leave the second argument as it was. -/
theorem arg1_eq (V : Valuation τ sig (Elt F)) :
    after ops V (main_arg1 : DevRef τ sig) = V (main_arg1 : DevRef τ sig) := by
  after_reads_simp

/-! What the reference computes, as functions of the two arguments. -/

/-- The image with channels last and its positions in one axis: one row of 64 channels per position. -/
def flat (z : FVec F S16x64x32x32 .f32) : FVec F S16384x64 .f32 :=
  shapeCast S16384x64 (transpose S16x32x32x64 [0, 2, 3, 1] z transposes_S16x64x32x32_S16x32x32x64_0_2_3_1) shapeCasts_S16x32x32x64_S16384x64

/-- The squared distance of every row to every codebook entry, as the reference expands it. -/
def dist (z : FVec F S16x64x32x32 .f32) (w : FVec F S1024x64 .f32) : FVec F S16384x1024 .f32 :=
  subf
    (addf
      (broadcastInDim S16384x1024 ![0, 1] bcast_S16384x1_S16384x1024_0_1
        (broadcastInDim S16384x1 ![0] bcast_S16384_S16384x1_0
          (Host.reduceAdd (mulf (flat z) (flat z)) (constant S_ .f32 0x00000000#32) reducesTo_S16384x64_S16384_d1 h_S_)))
      (broadcastInDim S16384x1024 ![0, 1] bcast_S1x1024_S16384x1024_0_1
        (broadcastInDim S1x1024 ![1] bcast_S1024_S1x1024_1
          (Host.reduceAdd (mulf w w) (constant S_ .f32 0x00000000#32) reducesTo_S1024x64_S1024_d1 h_S_))))
    (mulf (broadcastInDim S16384x1024 ![] bcast_S_S16384x1024 (constant S_ .f32 0x40000000#32))
      (Host.dotGeneral dot_S16384x64_S64x1024_S16384x1024_1_0_0_1_n_n none (flat z)
        (transpose S64x1024 [1, 0] w transposes_S1024x64_S64x1024_1_0)))

/-- The number of the nearest entry of each row. -/
def amin (z : FVec F S16x64x32x32 .f32) (w : FVec F S1024x64 .f32) : IVec S16384 32 :=
  minIndex (dist z w) (iotaInDim S16384x1024 32 1) (constant S_ .f32 0x7F800000#32) (constantI S_ 32 0#32)

/-- The row numbers that the lookup reads at: a negative one counts from the end. -/
def rows (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Which of those row numbers lie inside the codebook. -/
def inside (r : IVec S16384x1 32) : IVec S16384 1 :=
  Host.reduce IntOp.andi
    (andi (cmpi .sge r (broadcastInDim S16384x1 ![] bcast_S_S16384x1 (constantI S_ 32 0#32)))
      (cmpi .sle r (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The codebook looked up at the numbers `i`. -/
def look (w : FVec F S1024x64 .f32) (i : IVec S16384 32) : FVec F S16384x64 .f32 :=
  select (broadcastInDim S16384x64 ![0] bcast_S16384_S16384x64_0 (inside (rows i)))
    (Host.gather gather_S1024x64_S16384x1_S16384x64_1_0_n_n_0_1_164 w (rows i))
    (broadcastInDim S16384x64 ![] bcast_S_S16384x64 (constant S_ .f32 0x7FC00000#32))

/-- The nearest entries, back in the image's layout. -/
def quant (z : FVec F S16x64x32x32 .f32) (w : FVec F S1024x64 .f32) : FVec F S16x64x32x32 .f32 :=
  transpose S16x64x32x32 [0, 3, 1, 2] (shapeCast S16x32x32x64 (look w (amin z w)) shapeCasts_S16384x64_S16x32x32x64)
    transposes_S16x32x32x64_S16x64x32x32_0_3_1_2

/-- The mean of the squares of `d`. -/
def meanSq (d : FVec F S16x64x32x32 .f32) : FVec F S_ .f32 :=
  Host.divf (Host.reduceAdd (mulf d d) (constant S_ .f32 0x00000000#32) reducesTo_S16x64x32x32_S_d0_1_2_3 h_S_)
    (constant S_ .f32 0x49800000#32)

/-- The first result: the images plus the difference of the quantised images from them. -/
theorem out0_eq (V : Valuation τ sig (Elt F)) :
    after ops V (main_v22 : DevRef τ sig)
      = (let z := V (main_arg0 : DevRef τ sig); addf z (subf (quant z (V (main_arg1 : DevRef τ sig))) z)) := by
  after_reads_simp
  simp -implicitDefEqProofs only [TRef.toBuf, TRef.ofBuf, cast_cast, cast_eq]
  unfold quant look inside rows amin dist flat
  rfl

/-- The numbers that the second result and the lookup read. -/
theorem index_eq (V : Valuation τ sig (Elt F)) :
    after ops V (main_v16 : DevRef τ sig) = amin (V (main_arg0 : DevRef τ sig)) (V (main_arg1 : DevRef τ sig)) := by
  after_reads_simp
  simp -implicitDefEqProofs only [TRef.toBuf, TRef.ofBuf, cast_cast, cast_eq]
  unfold amin dist flat
  rfl

/-- The second result: those numbers, one per position. -/
theorem out1_eq (V : Valuation τ sig (Elt F)) :
    after ops V (main_v17 : DevRef τ sig)
      = shapeCast S16x32x32 (amin (V (main_arg0 : DevRef τ sig)) (V (main_arg1 : DevRef τ sig))) shapeCasts_S16384_S16x32x32 := by
  rw [← index_eq]
  after_reads_simp
  generalize TRef.toBuf _ _ = x
  rfl

/-- The third result: the mean squared error. -/
theorem out2_eq (V : Valuation τ sig (Elt F)) :
    after ops V (main_v26 : DevRef τ sig)
      = (let z := V (main_arg0 : DevRef τ sig); meanSq (subf (quant z (V (main_arg1 : DevRef τ sig))) z)) := by
  after_reads_simp
  simp -implicitDefEqProofs only [TRef.toBuf, TRef.ofBuf, cast_cast, cast_eq]
  unfold meanSq quant look inside rows amin dist flat
  rfl

/-- The fourth result: a quarter of the mean squared error, the difference taken the other way. -/
theorem out3_eq (V : Valuation τ sig (Elt F)) :
    after ops V (main_v31 : DevRef τ sig)
      = (let z := V (main_arg0 : DevRef τ sig);
          mulf (constant S_ .f32 0x3E800000#32) (meanSq (subf z (quant z (V (main_arg1 : DevRef τ sig)))))) := by
  after_reads_simp
  simp -implicitDefEqProofs only [TRef.toBuf, TRef.ofBuf, cast_cast, cast_eq]
  unfold meanSq quant look inside rows amin dist flat
  rfl

end Cert.Vq.RefRun

end
-- ==== Proof.RefIdeal.lean ====
/-
  The reference over the extended reals, read at an index: the distances, the nearest entry's number, the lookup and the
  mean of squares.
-/
module

public import proofs.«01_k».proof.Proof.RefRun
public import proofs.«01_k».proof.Proof.First
public import Idealize.ShloMosaic.Lib.Pipeline.ValueKit
public import Idealize.ShloMosaic.Lib.Routing.Ops

@[expose] public section

set_option maxRecDepth 16384

noncomputable section

namespace Cert.Vq.RefIdeal

open Cert.ReferenceIdeal Cert.ReferenceIdeal.Gen Cert.Vq.RefRun Cert.Vq.First
open Idealize.ShloMosaic Idealize.ShloMosaic.TcCoe Idealize.SL.Sem

/-- The word of plus infinity is the greatest extended real. -/
theorem inf_eq : Ideal.ofBits .f32 2139095040#32 = ⊤ := by simp [Ideal.ofBits, Ideal.ieee]

/-- The row of position `(h, v)` of image `b`: images first, then the positions row by row. -/
theorem flat_at (z : FVec Ideal S16x64x32x32 .f32) (n : Fin 16384) (d : Fin 64) :
    flat z (ix2 n d) = z (ix4 ⟨n.val / 1024, by omega⟩ d ⟨n.val / 32 % 32, by omega⟩ ⟨n.val % 32, by omega⟩) := by
  pointwise [flat]

/-- A distance: the two squared lengths less twice the product. -/
theorem dist_at (z : FVec Ideal S16x64x32x32 .f32) (w : FVec Ideal S1024x64 .f32) (n : Fin 16384) (k : Fin 1024) :
    RefRun.dist z w (ix2 n k)
      = ((∑ d, flat z (ix2 n d) * flat z (ix2 n d)) + ∑ d, w (ix2 k d) * w (ix2 k d))
        - Ideal.ofBits .f32 0x40000000#32 * ∑ d, flat z (ix2 n d) * w (ix2 k d) := by
  pointwise [RefRun.dist]

/-- The pair that the reference's reduction keeps is the earlier one. -/
theorem reducer_eq (a b : EReal × BitVec 32) :
    reducer_argmin_f32_i32 (F := Ideal) a b = lesser a b := by
  obtain ⟨x, i⟩ := a
  obtain ⟨y, j⟩ := b
  unfold reducer_argmin_f32_i32 lesser Before
  rw [← BitVec.slt_iff_toInt_lt]
  have one_or : ∀ b : BitVec 1, 1#1 ||| b = 1#1 := by decide
  rcases lt_trichotomy x y with h | h | h
  · simp [h, one_or, Ideal.cmpf_def, Ideal.cmp, IntOp.ori, IntOp.andi, Scalar.select]
  · subst h
    by_cases hij : i.slt j = true
    · simp [hij, Ideal.cmpf_def, Ideal.cmp, IntOp.cmpi, IntOp.ori, IntOp.andi, Scalar.select]
    · simp [hij, Ideal.cmpf_def, Ideal.cmp, IntOp.cmpi, IntOp.ori, IntOp.andi, Scalar.select]
  · simp [h.not_gt, h.ne', Ideal.cmpf_def, Ideal.cmp, IntOp.ori, IntOp.andi, Scalar.select]

/-- A row's elements are those with that first coordinate. -/
theorem drop_iff (i : S16384x1024.Idx) (n : Fin 16384) :
    Shape.ReducesTo.drop reducesTo_S16384x1024_S16384_d1 i = ix1 n ↔ i 0 = n := by
  have e : Shape.ReducesTo.drop reducesTo_S16384x1024_S16384_d1 i = ix1 (i 0) := by
    funext b
    match b with
    | ⟨0, _⟩ => rfl
  rw [e]
  exact ⟨fun h => congrFun h 0, fun h => congrArg ix1 h⟩

/-- The pairs a two-operand reduction folds over at `j` are those of the indices that drop to `j`. -/
theorem mem_fiber {s t : Shape} {axes : List (Fin s.rank)} {α β : Type} (x : s.Idx → α) (y : s.Idx → β)
    (h : s.ReducesTo axes t) (j : t.Idx) (q : α × β) :
    q ∈ Host.argReduceFiber x y h j ↔ ∃ i, h.drop i = j ∧ q = (x i, y i) := by
  unfold Host.argReduceFiber
  rw [List.mem_map]
  constructor
  · rintro ⟨c, hc, rfl⟩
    exact ⟨_, of_decide_eq_true (List.mem_filter.1 hc).2, rfl⟩
  · rintro ⟨i, hi, rfl⟩
    refine ⟨s.rowMajor i, List.mem_filter.2 ⟨List.mem_finRange _, decide_eq_true ?_⟩, ?_⟩
    · rw [Equiv.symm_apply_apply]
      exact hi
    · rw [Equiv.symm_apply_apply]

/-- What a two-operand reduction finds, told by its fold over any list of exactly the pairs that drop to `j`. -/
theorem argReduce_eq {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t)
    (hu : 0 < u.numel) (j : t.Idx) (p : EReal × BitVec 32)
    (H : ∀ l : List (EReal × BitVec 32), (∀ q, q ∈ l ↔ ∃ i, h.drop i = j ∧ q = (x i, y i)) →
      l.foldl f (ix (Shape.Idx.first hu), iy (Shape.Idx.first hu)) = p) :
    Host.argReduce f x y ix iy h hu j = p := by
  rw [Ideal.argReduce_eq_reduce2, Host.reduce2_eq_foldl_fiber]
  exact H _ fun q => mem_fiber x y h j q

/-- The words that a reduction by the earlier pair finds, told by its fold over any list of exactly the pairs that drop
    to `j`. -/
theorem words_eq {s t u : Shape} {axes : List (Fin s.rank)} (f : EReal × BitVec 32 → EReal × BitVec 32 → EReal × BitVec 32)
    (hf : f = lesser) (x : FVec Ideal s .f32) (y : IVec s 32) (ix : FVec Ideal u .f32) (iy : IVec u 32)
    (h : s.ReducesTo axes t) (hu : 0 < u.numel) (j : t.Idx) (p : EReal × BitVec 32)
    (H : ∀ l : List (EReal × BitVec 32), (∀ q, q ∈ l ↔ ∃ i, h.drop i = j ∧ q = (x i, y i)) →
      l.foldl lesser (ix (Shape.Idx.first hu), iy (Shape.Idx.first hu)) = p) :
    words (F := Ideal) f x y ix iy h hu j = p.2 := by
  subst hf
  unfold words
  rw [argReduce_eq lesser x y ix iy h hu j p H]

/-- The least index of the least distance of a row. -/
theorem minIndex_at (s : FVec Ideal S16384x1024 .f32) (n : Fin 16384) (k : Fin 1024)
    (h : IsFirst (fun k => s (ix2 n k)) k) (hk : s (ix2 n k) < ⊤) :
    minIndex s (iotaInDim S16384x1024 32 1) (constant S_ .f32 0x7F800000#32) (constantI S_ 32 0#32) (ix1 n)
      = BitVec.ofNat 32 k.val := by
  have hfold : ∀ (l : List (EReal × BitVec 32)) (a : EReal × BitVec 32), a.1 = ⊤ →
      (∀ q, q ∈ l ↔ ∃ i : S16384x1024.Idx, i 0 = n ∧ q = (s i, BitVec.ofNat 32 (i 1).val)) →
      l.foldl lesser a = (s (ix2 n k), BitVec.ofNat 32 k.val) := by
    intro l a ha hl
    refine foldl_lesser_eq _ l (fun q hq => ?_) ((hl _).2 ⟨ix2 n k, rfl, rfl⟩) a (.inl (by rw [ha]; exact hk))
    obtain ⟨i, hi, rfl⟩ := (hl q).1 hq
    idx_vars i
    have hi' : i0 = n := hi
    subst hi'
    rcases lt_trichotomy k i1 with hlt | rfl | hlt
    · right
      rcases (h i1).1.lt_or_eq with hv | hv
      · exact .inl hv
      · refine .inr ⟨hv, ?_⟩
        show (BitVec.ofNat 32 k.val).toInt < (BitVec.ofNat 32 i1.val).toInt
        rw [word_toInt k.val (by omega), word_toInt i1.val (by omega)]
        exact_mod_cast hlt
    · exact .inl rfl
    · exact .inr (.inl ((h i1).2 hlt))
  unfold minIndex
  refine words_eq _ (funext fun a => funext fun b => reducer_eq a b) s _ _ _ _ _ (ix1 n)
    (s (ix2 n k), BitVec.ofNat 32 k.val) fun l hl => ?_
  refine hfold l _ inf_eq fun q => (hl q).trans ?_
  refine exists_congr fun i => and_congr (drop_iff i n) ?_
  rfl

/-- A row number of the codebook stays itself. -/
theorem rows_at (i : IVec S16384 32) (n : Fin 16384) (k : Fin 1024) (h : i (ix1 n) = BitVec.ofNat 32 k.val) :
    rows i (ix2 n 0) = BitVec.ofNat 32 k.val := by
  pointwise [rows]
  rw [h]
  have e := word_toInt k.val (by omega)
  have : (BitVec.ofNat 32 k.val).slt 0#32 = false := by
    rw [BitVec.slt_eq_decide, e]
    simp
  simp [IntOp.cmpi, this, Scalar.select]

/-- A row number of the codebook lies inside it. -/
theorem inside_at (r : IVec S16384x1 32) (n : Fin 16384) (k : Fin 1024) (h : r (ix2 n 0) = BitVec.ofNat 32 k.val) :
    inside r (ix1 n) = 1#1 := by
  pointwise [inside]
  have e := word_toInt k.val (by omega)
  have lo : (0#32).sle (BitVec.ofNat 32 k.val) = true := by
    rw [BitVec.sle_eq_decide, e]
    simp
  have hi : (BitVec.ofNat 32 k.val).sle 1023#32 = true := by
    rw [BitVec.sle_eq_decide, e]
    have : (1023#32).toInt = 1023 := by decide
    rw [this]
    exact decide_eq_true (by omega)
  simp [h, IntOp.cmpi, lo, hi, IntOp.andi]

/-- The lookup at a row number of the codebook is that row. -/
theorem look_at (w : FVec Ideal S1024x64 .f32) (i : IVec S16384 32) (n : Fin 16384) (k : Fin 1024) (d : Fin 64)
    (h : i (ix1 n) = BitVec.ofNat 32 k.val) : look w i (ix2 n d) = w (ix2 k d) := by
  pointwise [look]
  rw [inside_at (rows i) n k (rows_at i n k h), show Host.gather gather_S1024x64_S16384x1_S16384x64_1_0_n_n_0_1_164 w (rows i) (ix2 n d) = w (ix2 k d) from
      Routing.gather_row _ rfl rfl rfl rfl rfl w (rows i) n d k (rows_at i n k h) (by decide)]
  simp [Scalar.select]

/-- The quantised image, read at an index. -/
theorem quant_at (z : FVec Ideal S16x64x32x32 .f32) (w : FVec Ideal S1024x64 .f32) (b : Fin 16) (d : Fin 64) (h v : Fin 32) :
    quant z w (ix4 b d h v) = look w (amin z w) (ix2 ⟨b.val * 1024 + h.val * 32 + v.val, by omega⟩ d) := by
  pointwise [quant]

/-- The mean of squares: the sum over all indices, divided. -/
theorem meanSq_at (d : FVec Ideal S16x64x32x32 .f32) (i : S_.Idx) :
    meanSq d i = Ideal.div (∑ j : S16x64x32x32.Idx, d j * d j) (Ideal.ofBits .f32 0x49800000#32) := by
  pointwise [meanSq]
  rw [Ideal.hostReduceAdd_total reducesTo_S16x64x32x32_S_d0_1_2_3 (fun b => b.elim0), zero_add]
  rfl

end Cert.Vq.RefIdeal

end
-- ==== Proof.Equation.lean ====
/-
  Where the images and the codebook are real numbers, the kernel's results are the reference's.
-/
module

public import proofs.«01_k».proof.Proof.KernelRun
public import proofs.«01_k».proof.Proof.BlockIdeal
public import proofs.«01_k».proof.Proof.RefIdeal
public import proofs.«01_k».proof.Proof.Gen.Pre_finite
public import Idealize.ShloMosaic.Lib.ReduceAll

@[expose] public section

set_option maxRecDepth 16384

noncomputable section

namespace Cert.Vq.Equation

open Cert.Vq.Block Cert.Vq.Arrays Cert.Vq.KernelRun Cert.Vq.First
open Idealize.ShloMosaic Idealize.ShloMosaic.TcCoe Idealize.SL.Sem

/-- The images. -/
abbrev Images := FVec Ideal Cert.KernelIdeal.S16x64x32x32 .f32

/-- The codebook. -/
abbrev Book := FVec Ideal Cert.KernelIdeal.S1024x64 .f32

/-- Every element is a real number. -/
def AllReal {s : Shape} (x : FVec Ideal s .f32) : Prop := ∀ i, ∃ r : ℝ, x i = (r : EReal)

/-- An image with its positions in one axis, read at a channel and a position. -/
theorem pic_at (z : Images) (b : Fin 16) (d : Fin 64) (p : Fin 1024) :
    pic (joined z) b (ix2 d p) = z (ix4 b d ⟨p.val / 32, by omega⟩ ⟨p.val % 32, by omega⟩) := by
  unfold pic
  pointwise [joined]

/-- The number of position `p` of image `b` among all the positions. -/
def pos (b : Fin 16) (p : Fin 1024) : Fin 16384 := ⟨b.val * 1024 + p.val, by omega⟩

/-- The reference's row of a position is the image's column there. -/
theorem flat_pic (z : Images) (b : Fin 16) (d : Fin 64) (p : Fin 1024) :
    RefRun.flat z (ix2 (pos b p) d) = pic (joined z) b (ix2 d p) := by
  rw [RefIdeal.flat_at, pic_at]
  have h0 : (pos b p).val / 1024 = b.val := by unfold pos; simp only; omega
  have h1 : (pos b p).val / 32 % 32 = p.val / 32 := by unfold pos; simp only; omega
  have h2 : (pos b p).val % 32 = p.val % 32 := by unfold pos; simp only; omega
  simp only [h0, h1, h2, Fin.eta]

/-- The images' elements being real numbers, so are each image's. -/
theorem pic_real (z : Images) (hz : AllReal z) (b : Fin 16) : AllReal (pic (joined z) b) := by
  intro i
  rw [eq_ix2 i]
  refine (pic_at z b _ _) ▸ hz _

/-- The word of minus two. -/
theorem neg_two : Ideal.ofBits .f32 0xC0000000#32 = ((-2 : ℝ) : EReal) := by
  simp [Ideal.ofBits, Ideal.ieee]
  rw [← EReal.coe_mul]
  norm_num

/-- The word of two. -/
theorem two : Ideal.ofBits .f32 0x40000000#32 = ((2 : ℝ) : EReal) := by
  simp [Ideal.ofBits, Ideal.ieee]
  rw [← EReal.coe_mul]
  norm_num

/-- A sum of real numbers is the same sum among the extended reals. -/
theorem sum_coe {N : ℕ} (f : Fin N → ℝ) : ∑ i, (f i : EReal) = ((∑ i, f i : ℝ) : EReal) := by
  induction N with
  | zero => simp
  | succ N ih => rw [Fin.sum_univ_succ, Fin.sum_univ_succ, ih, EReal.coe_add]

/-- On real numbers the product with the codebook scaled by minus two is twice the product, subtracted; and the score is a
    real number. -/
theorem expand (x w : Fin 64 → EReal) (hx : ∀ d, ∃ r : ℝ, x d = (r : EReal)) (hw : ∀ d, ∃ r : ℝ, w d = (r : EReal)) :
    (((∑ d, x d * x d) + ∑ d, w d * w d) + ∑ d, ((-2 : ℝ) : EReal) * w d * x d
      = ((∑ d, x d * x d) + ∑ d, w d * w d) - ((2 : ℝ) : EReal) * ∑ d, x d * w d)
      ∧ ((∑ d, x d * x d) + ∑ d, w d * w d) - ((2 : ℝ) : EReal) * ∑ d, x d * w d < ⊤ := by
  choose X hX using hx
  choose W hW using hw
  simp only [hX, hW, ← EReal.coe_mul, sum_coe, ← EReal.coe_add, ← EReal.coe_sub]
  refine ⟨?_, EReal.coe_lt_top _⟩
  congr 1
  rw [Finset.mul_sum, sub_eq_add_neg, ← Finset.sum_neg_distrib]
  exact congrArg _ (Finset.sum_congr rfl fun d _ => by ring)

/-- At every position the kernel's number and the reference's number are one and the same row number. -/
theorem nearest_amin (z : Images) (w : Book) (hz : AllReal z) (hw : AllReal w) (b : Fin 16) (p : Fin 1024) :
    ∃ n : Fin 1024, nearest w (pic (joined z) b) (ix1 p) = BitVec.ofNat 32 n.val
      ∧ RefRun.amin z w (ix1 (pos b p)) = BitVec.ofNat 32 n.val := by
  have key (k : Fin 1024) : score w (pic (joined z) b) (ix2 k p) = RefRun.dist z w (ix2 (pos b p) k)
      ∧ RefRun.dist z w (ix2 (pos b p) k) < ⊤ := by
    have h := expand (fun d => pic (joined z) b (ix2 d p)) (fun d => w (ix2 k d))
      (fun d => pic_real z hz b _) (fun d => hw _)
    rw [BlockIdeal.score_at, RefIdeal.dist_at, neg_two, two]
    simp only [flat_pic]
    exact h
  obtain ⟨n, hn⟩ := exists_isFirst fun k => RefRun.dist z w (ix2 (pos b p) k)
  refine ⟨n, BlockIdeal.first_at _ p n ?_, RefIdeal.minIndex_at _ _ n hn (key n).2⟩
  have e : (fun k => score w (pic (joined z) b) (ix2 k p)) = fun k => RefRun.dist z w (ix2 (pos b p) k) :=
    funext fun k => (key k).1
  rw [e]
  exact hn

/-- At every place the entry that the kernel picks is the entry that the reference looks up. -/
theorem picked_look (z : Images) (w : Book) (hz : AllReal z) (hw : AllReal w) (b : Fin 16) (d : Fin 64) (p : Fin 1024) :
    ∃ n : Fin 1024, picked w (pic (joined z) b) (ix2 d p) = w (ix2 n d)
      ∧ RefRun.look w (RefRun.amin z w) (ix2 (pos b p) d) = w (ix2 n d) := by
  obtain ⟨n, h1, h2⟩ := nearest_amin z w hz hw b p
  exact ⟨n, BlockIdeal.pick_at w _ d p n h1, RefIdeal.look_at w _ (pos b p) n d h2⟩

/-- The kernel's quantised images, read at an image, a channel and a position. -/
theorem quantised_at (z : Images) (w : Book) (b : Fin 16) (d : Fin 64) (h v : Fin 32) :
    quantised z w (ix4 b d h v) = picked w (pic (joined z) b) (ix2 d ⟨h.val * 32 + v.val, by omega⟩) := by
  pointwise [quantised]

/-- The quantised images agree, and hold real numbers. -/
theorem quantised_eq (z : Images) (w : Book) (hz : AllReal z) (hw : AllReal w) :
    RefRun.quant z w = quantised z w ∧ AllReal (s := Cert.KernelIdeal.S16x64x32x32) (quantised z w) := by
  have at_ (i : Cert.KernelIdeal.S16x64x32x32.Idx) : RefRun.quant z w i = quantised z w i ∧ ∃ r : ℝ, quantised z w i = (r : EReal) := by
    idx_vars i
    obtain ⟨n, h1, h2⟩ := picked_look z w hz hw i0 i1 ⟨i2.val * 32 + i3.val, by omega⟩
    have e : pos i0 ⟨i2.val * 32 + i3.val, by omega⟩ = ⟨i0.val * 1024 + i2.val * 32 + i3.val, by omega⟩ :=
      Fin.ext (by unfold pos; simp only; omega)
    rw [e] at h2
    rw [quantised_at, h1]
    exact ⟨(RefIdeal.quant_at z w i0 i1 i2 i3).trans h2, hw _⟩
  exact ⟨funext fun i => (at_ i).1, fun i => (at_ i).2⟩

/-- The first result: the images plus the difference are the quantised images. -/
theorem result0 (z : Images) (w : Book) (hz : AllReal z) (hw : AllReal w) :
    addf z (subf (RefRun.quant z w) z) = quantised z w := by
  obtain ⟨hq, hr⟩ := quantised_eq z w hz hw
  rw [hq]
  funext i
  obtain ⟨a, ha⟩ := hz i
  obtain ⟨q, hq⟩ := hr i
  show z i + (quantised z w i - z i) = quantised z w i
  rw [ha, hq, ← EReal.coe_sub, ← EReal.coe_add]
  congr 1
  ring

/-- Numbers in one axis, cut into images and positions. -/
theorem cut_at (a : IVec Cert.ReferenceIdeal.S16384 32) (b : Fin 16) (h v : Fin 32) :
    shapeCast Cert.ReferenceIdeal.S16x32x32 a Cert.ReferenceIdeal.Gen.shapeCasts_S16384_S16x32x32 (ix3 b h v)
      = a (ix1 ⟨b.val * 1024 + h.val * 32 + v.val, by omega⟩) := by
  pointwise

/-- The kernel's numbers, read at an image and a position. -/
theorem indices_at (z : Images) (w : Book) (b : Fin 16) (h v : Fin 32) :
    indices z w (ix3 b h v) = nearest w (pic (joined z) b) (ix1 ⟨h.val * 32 + v.val, by omega⟩) := by
  pointwise [indices]

/-- The second result: the code indices. -/
theorem result1 (z : Images) (w : Book) (hz : AllReal z) (hw : AllReal w) :
    shapeCast Cert.ReferenceIdeal.S16x32x32 (RefRun.amin z w) Cert.ReferenceIdeal.Gen.shapeCasts_S16384_S16x32x32 = indices z w := by
  funext i
  idx_vars i
  obtain ⟨n, h1, h2⟩ := nearest_amin z w hz hw i0 ⟨i1.val * 32 + i2.val, by omega⟩
  have e : pos i0 ⟨i1.val * 32 + i2.val, by omega⟩ = ⟨i0.val * 1024 + i1.val * 32 + i2.val, by omega⟩ :=
    Fin.ext (by unfold pos; simp only; omega)
  rw [e] at h2
  rw [indices_at, h1]
  exact (cut_at _ i0 i1 i2).trans h2

/-- The square of a difference of real numbers does not depend on its order. -/
theorem meanSq_comm (x y : Images) (hx : AllReal x) (hy : AllReal y) :
    RefRun.meanSq (subf x y) = RefRun.meanSq (subf y x) := by
  funext i
  rw [RefIdeal.meanSq_at, RefIdeal.meanSq_at]
  congr 1
  refine Finset.sum_congr rfl fun j _ => ?_
  obtain ⟨a, ha⟩ := hx j
  obtain ⟨b, hb⟩ := hy j
  show (x j - y j) * (x j - y j) = (y j - x j) * (y j - x j)
  rw [ha, hb, ← EReal.coe_sub, ← EReal.coe_sub, ← EReal.coe_mul, ← EReal.coe_mul]
  congr 1
  ring

/-- The kernel's mean error: the totals of the two blocks, divided. -/
theorem meanErr_at (z : Images) (w : Book) (i : Cert.KernelIdeal.S_.Idx) :
    meanErr z w i = Ideal.div (∑ t : Fin 2, errs w (octet (joined z) t)) (Ideal.ofBits .f32 0x49800000#32) := by
  pointwise [meanErr]
  exact congrArg (Ideal.div · _) ((congrArg (· + _) Ideal.ofBits_zero_f32).trans (zero_add _))

/-- A sum over `M * N` indices, taken in `M` runs of `N`. -/
theorem sum_runs (M N : ℕ) (f : Fin (M * N) → EReal) :
    ∑ b, f b = ∑ i : Fin M, ∑ j : Fin N, f (finProdFinEquiv (i, j)) := by
  rw [← Fintype.sum_prod_type']
  exact (finProdFinEquiv.sum_comp f).symm

/-- The two blocks' totals are the sixteen images' errors, summed. -/
theorem errs_sum (x : FVec Ideal Cert.KernelIdeal.S16x64x1024 .f32) (w : Book) :
    ∑ t : Fin 2, errs w (octet x t) = ∑ b : Fin 16, err w (pic x b) := by
  rw [sum_runs 2 8 fun b => err w (pic x b)]
  refine Finset.sum_congr rfl fun t _ => ?_
  rw [BlockIdeal.errs_at]
  refine Finset.sum_congr rfl fun g _ => ?_
  exact congrArg (err w) (image_octet (F := Ideal) x t g (finProdFinEquiv (t, g)) (by simp only [finProdFinEquiv_apply_val]; omega))

/-- An image's squared error, over its channels, rows and columns. -/
theorem err_at (z : Images) (w : Book) (b : Fin 16) :
    err w (pic (joined z) b) = ∑ d : Fin 64, ∑ h : Fin 32, ∑ v : Fin 32,
      (quantised z w (ix4 b d h v) - z (ix4 b d h v)) * (quantised z w (ix4 b d h v) - z (ix4 b d h v)) := by
  unfold err
  rw [BlockIdeal.sumSq_at]
  refine Finset.sum_congr rfl fun d _ => ?_
  refine (sum_runs 32 32 _).trans (Finset.sum_congr rfl fun h _ => Finset.sum_congr rfl fun v _ => ?_)
  have hp : (finProdFinEquiv (h, v) : Fin (32 * 32)) = (⟨h.val * 32 + v.val, by omega⟩ : Fin 1024) :=
    Fin.ext (by simp only [finProdFinEquiv_apply_val]; omega)
  have e : subf (picked w (pic (joined z) b)) (pic (joined z) b) (ix2 d ⟨h.val * 32 + v.val, by omega⟩)
      = quantised z w (ix4 b d h v) - z (ix4 b d h v) := by
    rw [quantised_at]
    show picked w (pic (joined z) b) _ - pic (joined z) b _ = _
    rw [pic_at]
    have h1 : (h.val * 32 + v.val) / 32 = h.val := by omega
    have h2 : (h.val * 32 + v.val) % 32 = v.val := by omega
    simp only [h1, h2, Fin.eta]
  rw [hp, e]

/-- The third result: the mean squared error. -/
theorem result2 (z : Images) (w : Book) (hz : AllReal z) (hw : AllReal w) :
    RefRun.meanSq (subf (RefRun.quant z w) z) = meanErr z w := by
  rw [(quantised_eq z w hz hw).1]
  funext i
  rw [RefIdeal.meanSq_at, meanErr_at, errs_sum, sum_idx4]
  congr 1
  refine Finset.sum_congr rfl fun b _ => ?_
  rw [err_at]
  rfl

/-- The fourth result: a quarter of the mean squared error. -/
theorem result3 (z : Images) (w : Book) (hz : AllReal z) (hw : AllReal w) :
    mulf (constant Cert.ReferenceIdeal.S_ .f32 0x3E800000#32) (RefRun.meanSq (subf z (RefRun.quant z w)))
      = mulf (constant Cert.KernelIdeal.S_ .f32 0x3E800000) (meanErr z w) := by
  obtain ⟨hq, hr⟩ := quantised_eq z w hz hw
  rw [← result2 z w hz hw, hq, meanSq_comm z _ hz hr]
  rfl

/-- Where the precondition holds, both arguments hold real numbers. -/
theorem real_of_finite (z : Images) (w : Book) (h : Cert.Pre_finite.fn (F := Ideal) z w = fun _ => 1#1) :
    AllReal (s := Cert.KernelIdeal.S16x64x32x32) z ∧ AllReal (s := Cert.KernelIdeal.S1024x64) w := by
  have real (a : EReal) (ha : FloatOps.cmpf (F := Ideal) (φ := .f32) .olt (max a (-a)) (Ideal.ofBits .f32 0x7F800000#32) = 1#1) :
      ∃ r : ℝ, a = (r : EReal) := by
    rw [BlockIdeal.inf_eq, Ideal.cmpf_def] at ha
    induction a using EReal.rec with
    | bot => simp [Ideal.cmp] at ha
    | top => simp [Ideal.cmp] at ha
    | coe r => exact ⟨r, rfl⟩
  have : Subsingleton Cert.Pre_finite.S_.Idx := ⟨fun a b => funext fun c => c.elim0⟩
  obtain ⟨h0, h1⟩ := IntOp.andi_eq_one.1 (congrFun h fun c => c.elim0)
  exact ⟨fun i => real _ (Host.reduce_andi_all _ _ _ _ _ h0 i), fun i => real _ (Host.reduce_andi_all _ _ _ _ _ h1 i)⟩

end Cert.Vq.Equation

end
-- ==== Proof.lean ====
/-
  The certificate: the frames of the three programs, and the kernel's four results equal to the reference's where the
  arguments hold real numbers.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Equation

@[expose] public section

noncomputable section

namespace Cert.Proof

open Idealize.ShloMosaic Idealize.SL.Sem

/-- Every run of the reference leaves its arguments as they were and its counters at zero. -/
theorem frameRI : Cert.quiescent_ReferenceIdeal := fun m g _ =>
  (θ_run _ _ _).mono (fun r h => ⟨fun c =>
    ⟨(h c _).trans (Cert.Vq.RefRun.arg0_eq _), (h c _).trans (Cert.Vq.RefRun.arg1_eq _)⟩,
    sem_eq_zero_of_no_sems (by decide) r.2⟩) (Cert.Vq.RefRun.run (F := Ideal) m g)

/-- From equal real arguments the kernel and the reference end with the same four results. -/
theorem algebraic : Cert.algebraic_KernelIdeal_ReferenceIdeal_pre_finite := by
  intro m g m' g' hpre hagree
  have real c := Cert.Vq.Equation.real_of_finite _ _ (hpre c)
  let z (c : Dev Cert.KernelIdeal.nD) : Cert.Vq.Equation.Images := m (c.tc.loc Cert.KernelIdeal.main_arg0)
  let w (c : Dev Cert.KernelIdeal.nD) : Cert.Vq.Equation.Book := m (c.tc.loc Cert.KernelIdeal.main_arg1)
  refine ⟨fun c => Cert.Vq.KernelRun.quantised (z c) (w c), fun c => Cert.Vq.KernelRun.indices (z c) (w c),
    fun c => Cert.Vq.KernelRun.meanErr (z c) (w c),
    fun c => mulf (constant Cert.KernelIdeal.S_ .f32 0x3E800000) (Cert.Vq.KernelRun.meanErr (z c) (w c)),
    (θ_run _ _ _).mono (fun r h c => ?_) (Cert.Vq.KernelRun.run (F := Ideal) m g),
    (θ_run _ _ _).mono (fun r h c => ?_) (Cert.Vq.RefRun.run (F := Ideal) m' g')⟩
  · exact ⟨(h c).1.1, (h c).1.2.1, (h c).1.2.2.1, (h c).1.2.2.2, (h c).2⟩
  · obtain ⟨e0, e1⟩ := hagree c
    obtain ⟨hz, hw⟩ := real c
    have l0 : StableHlo.launchContents m' c (Proc.devRef .tc Cert.ReferenceIdeal.main_arg0) = m (c.tc.loc Cert.KernelIdeal.main_arg0) := e0
    have l1 : StableHlo.launchContents m' c (Proc.devRef .tc Cert.ReferenceIdeal.main_arg1) = m (c.tc.loc Cert.KernelIdeal.main_arg1) := e1
    refine ⟨(h c _).trans ((Cert.Vq.RefRun.out0_eq _).trans ?_), (h c _).trans ((Cert.Vq.RefRun.out1_eq _).trans ?_),
      (h c _).trans ((Cert.Vq.RefRun.out2_eq _).trans ?_), (h c _).trans ((Cert.Vq.RefRun.out3_eq _).trans ?_),
      (h c _).trans (Cert.Vq.RefRun.arg0_eq _), (h c _).trans (Cert.Vq.RefRun.arg1_eq _)⟩
    · rw [l0, l1]
      exact Cert.Vq.Equation.result0 _ _ hz hw
    · rw [l0, l1]
      exact Cert.Vq.Equation.result1 _ _ hz hw
    · rw [l0, l1]
      exact Cert.Vq.Equation.result2 _ _ hz hw
    · rw [l0, l1]
      exact Cert.Vq.Equation.result3 _ _ hz hw

/-- Everything claimed. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g, fun m g _ => Cert.KernelIdeal.Gen.frame m g,
    frameRI, fun m g _ => frameRI m g trivial, trivial, algebraic⟩

end Cert.Proof

end
